-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x8064 : Shape := ⟨3, ![4, 2048, 8064]⟩
abbrev S4x2048x1 : Shape := ⟨3, ![4, 2048, 1]⟩
abbrev S8064x9984 : Shape := ⟨2, ![8064, 9984]⟩
abbrev S9984 : Shape := ⟨1, ![9984]⟩
abbrev S8192x8064 : Shape := ⟨2, ![8192, 8064]⟩
abbrev S8192x1 : Shape := ⟨2, ![8192, 1]⟩
abbrev S1x9984 : Shape := ⟨2, ![1, 9984]⟩
abbrev S8192x9984 : Shape := ⟨2, ![8192, 9984]⟩
abbrev S1024x8064 : Shape := ⟨2, ![1024, 8064]⟩
abbrev S1024x1 : Shape := ⟨2, ![1024, 1]⟩
abbrev S8064x768 : Shape := ⟨2, ![8064, 768]⟩
abbrev S1x768 : Shape := ⟨2, ![1, 768]⟩
abbrev S1024x768 : Shape := ⟨2, ![1024, 768]⟩
abbrev S4x2048x9984 : Shape := ⟨3, ![4, 2048, 9984]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x8064, .fp8e4m3⟩
  | .hbm, ⟨1, _⟩ => ⟨S4x2048x1, .f32⟩
  | .hbm, ⟨2, _⟩ => ⟨S8064x9984, .fp8e4m3⟩
  | .hbm, ⟨3, _⟩ => ⟨S9984, .f32⟩
  | .hbm, ⟨4, _⟩ => ⟨S9984, .bf16⟩
  | .hbm, ⟨5, _⟩ => ⟨S8192x8064, .fp8e4m3⟩
  | .hbm, ⟨6, _⟩ => ⟨S8192x1, .f32⟩
  | .hbm, ⟨7, _⟩ => ⟨S1x9984, .f32⟩
  | .hbm, ⟨8, _⟩ => ⟨S1x9984, .bf16⟩
  | .hbm, ⟨9, _⟩ => ⟨S8192x9984, .bf16⟩
  | .hbm, ⟨10, _⟩ => ⟨S4x2048x9984, .bf16⟩
  | .local _ .vmem, ⟨0, _⟩ => ⟨S1024x8064, .fp8e4m3⟩
  | .local _ .vmem, ⟨1, _⟩ => ⟨S1024x8064, .fp8e4m3⟩
  | .local _ .vmem, ⟨2, _⟩ => ⟨S1024x1, .f32⟩
  | .local _ .vmem, ⟨3, _⟩ => ⟨S1024x1, .f32⟩
  | .local _ .vmem, ⟨4, _⟩ => ⟨S8064x768, .fp8e4m3⟩
  | .local _ .vmem, ⟨5, _⟩ => ⟨S8064x768, .fp8e4m3⟩
  | .local _ .vmem, ⟨6, _⟩ => ⟨S1x768, .f32⟩
  | .local _ .vmem, ⟨7, _⟩ => ⟨S1x768, .f32⟩
  | .local _ .vmem, ⟨8, _⟩ => ⟨S1x768, .bf16⟩
  | .local _ .vmem, ⟨9, _⟩ => ⟨S1x768, .bf16⟩
  | .local _ .vmem, ⟨10, _⟩ => ⟨S1024x768, .bf16⟩
  | .local _ .vmem, ⟨11, _⟩ => ⟨S1024x768, .bf16⟩
  | _, _ => ⟨S4x2048x8064, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8064 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8064x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x8064 : Shape := ⟨3, ![4, 2048, 8064]⟩
abbrev S4x2048x1 : Shape := ⟨3, ![4, 2048, 1]⟩
abbrev S8064x9984 : Shape := ⟨2, ![8064, 9984]⟩
abbrev S9984 : Shape := ⟨1, ![9984]⟩
abbrev S4x2048x9984 : Shape := ⟨3, ![4, 2048, 9984]⟩
abbrev S1x1x9984 : Shape := ⟨3, ![1, 1, 9984]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x8064, .fp8e4m3⟩
  | .hbm, ⟨1, _⟩ => ⟨S4x2048x1, .f32⟩
  | .hbm, ⟨2, _⟩ => ⟨S8064x9984, .fp8e4m3⟩
  | .hbm, ⟨3, _⟩ => ⟨S9984, .f32⟩
  | .hbm, ⟨4, _⟩ => ⟨S9984, .bf16⟩
  | .hbm, ⟨5, _⟩ => ⟨S4x2048x9984, .bf16⟩
  | .local _ .vmem, ⟨0, _⟩ => ⟨S4x2048x8064, .fp8e4m3⟩
  | .local _ .vmem, ⟨1, _⟩ => ⟨S4x2048x1, .f32⟩
  | .local _ .vmem, ⟨2, _⟩ => ⟨S8064x9984, .fp8e4m3⟩
  | .local _ .vmem, ⟨3, _⟩ => ⟨S9984, .f32⟩
  | .local _ .vmem, ⟨4, _⟩ => ⟨S9984, .bf16⟩
  | .local _ .vmem, ⟨5, _⟩ => ⟨S4x2048x9984, .bf16⟩
  | _, _ => ⟨S4x2048x8064, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2048x8064 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8064x9984 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9984 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9984 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x9984 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Layer.lean ====
/-
  The linear layer over the extended reals, element by element, and what one run of each program's body computes of its
  operands: the kernel's body on one (row block, column block) pair, and the reference's body on the whole arrays.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Layer

open Idealize.ShloMosaic
open scoped BigOperators

/-- One element of the layer: token `(b, s)` against output channel `n`. The dot product of the token's codes with the
    channel's codes, times the token's scale, times the channel's scale, plus the channel's bias. -/
def elem (x : (⟨3, ![4, 2048, 8064]⟩ : Shape).Idx → EReal) (xs : (⟨3, ![4, 2048, 1]⟩ : Shape).Idx → EReal)
    (w : (⟨2, ![8064, 9984]⟩ : Shape).Idx → EReal) (ws : (⟨1, ![9984]⟩ : Shape).Idx → EReal)
    (bias : (⟨1, ![9984]⟩ : Shape).Idx → EReal) (b : Fin 4) (s : Fin 2048) (n : Fin 9984) : EReal :=
  (∑ k : Fin 8064, x (ix3 b s k) * w (ix2 k n)) * xs (ix3 b s 0) * ws (ix1 n) + bias (ix1 n)

/-- THE REFERENCE'S BODY at token `(b, s)` and channel `n` is that element. -/
theorem reference_apply (x : FVec Ideal ReferenceIdeal.S4x2048x8064 .fp8e4m3) (w : FVec Ideal ReferenceIdeal.S8064x9984 .fp8e4m3)
    (xs : FVec Ideal ReferenceIdeal.S4x2048x1 .f32) (ws : FVec Ideal ReferenceIdeal.S9984 .f32)
    (bias : FVec Ideal ReferenceIdeal.S9984 .bf16) (b : Fin 4) (s : Fin 2048) (n : Fin 9984) :
    ReferenceIdeal.Gen.k0_pay1 (F := Ideal) x w xs ws bias (ix3 b s n) = elem x xs w ws bias b s n := by
  pointwise [ReferenceIdeal.Gen.k0_pay1, elem]

/-- THE KERNEL'S BODY at row `r` and column `j` of its block: the same element, of the row block's and the column block's
    operands. -/
theorem block_apply (x : FVec Ideal KernelIdeal.S1024x8064 .fp8e4m3) (w : FVec Ideal KernelIdeal.S8064x768 .fp8e4m3)
    (bias : FVec Ideal KernelIdeal.S1x768 .bf16) (xs : FVec Ideal KernelIdeal.S1024x1 .f32)
    (ws : FVec Ideal KernelIdeal.S1x768 .f32) (r : Fin 1024) (j : Fin 768) :
    KernelIdeal.Gen.k0_pay1 (F := Ideal) x w bias xs ws (ix2 r j)
      = (∑ k : Fin 8064, x (ix2 r k) * w (ix2 k j)) * xs (ix2 r 0) * ws (ix2 0 j) + bias (ix2 0 j) := by
  pointwise [KernelIdeal.Gen.k0_pay1]

end Cert.Layer

end
-- ==== Proof.KernelValue.lean ====
/-
  THE KERNEL'S RESULT over the extended reals. The grid's 104 points are the (row block, column block) pairs, and each
  point writes its own (1024, 768) block of the two-dimensional result, so that array is one function (`flat`) of the
  five arrays the region reads (`final`). Those are the arguments reshaped by the host lines before the region, and the
  host line after it reshapes the array to the program's result, which is `Layer.elem` of the arguments at every index
  (`run`).
-/
module

public import proofs.«01_k».proof.Proof.Gen.KernelIdeal.Frame
public import proofs.«01_k».proof.Proof.Layer
public import Idealize.ShloMosaic.Lib.Pipeline.Value

@[expose] public section

noncomputable section

namespace Cert.KernelIdeal.RefValue

open Cert.KernelIdeal Cert.KernelIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The two-dimensional result as one function of the region's arrays -/

/-- The layer on flattened tokens: row `i 0`, output channel `i 1`. -/
def flat (x : Vec Ideal S8192x8064 .fp8e4m3) (xs : Vec Ideal S8192x1 .f32) (w : Vec Ideal S8064x9984 .fp8e4m3)
    (ws : Vec Ideal S1x9984 .f32) (bias : Vec Ideal S1x9984 .bf16) : Vec Ideal S8192x9984 .bf16 := fun i =>
  ((∑ k : Fin 8064, (x (ix2 (n0 := 8192) (i 0) k) : EReal) * w (ix2 (n1 := 9984) k (i 1))) * xs (ix2 (n0 := 8192) (i 0) (0 : Fin 1))
    * ws (ix2 (n1 := 9984) (0 : Fin 1) (i 1)) + bias (ix2 (n1 := 9984) (0 : Fin 1) (i 1)) : EReal)

theorem hz : (![0, 0] : Fin 2 → Nat) = fun _ => 0 := funext fun a => by fin_cases a <;> rfl

/-- Each window's block index at point `t`: the row block is `t / 13`, the column block `t % 13`. -/
theorem idx_facts : ∀ t : Fin cfg0.N,
    (win0_0.index t (0 : Fin 2) = t.val / 13 ∧ win0_0.index t (1 : Fin 2) = 0)
    ∧ (win0_1.index t (0 : Fin 2) = t.val / 13 ∧ win0_1.index t (1 : Fin 2) = 0)
    ∧ (win0_2.index t (0 : Fin 2) = 0 ∧ win0_2.index t (1 : Fin 2) = t.val % 13)
    ∧ (win0_3.index t (0 : Fin 2) = 0 ∧ win0_3.index t (1 : Fin 2) = t.val % 13)
    ∧ (win0_4.index t (0 : Fin 2) = 0 ∧ win0_4.index t (1 : Fin 2) = t.val % 13)
    ∧ (win0_5.index t (0 : Fin 2) = t.val / 13 ∧ win0_5.index t (1 : Fin 2) = t.val % 13) :=
  (by decide +kernel : ∀ t : Fin grid0.N, _)

/-- Row `r` of point `t`'s row block, in the flattened tokens. -/
def row (t : Fin cfg0.N) (r : Fin 1024) : Fin 8192 :=
  ⟨t.val / 13 * 1024 + r.val, by have := t.isLt; have : cfg0.N = 104 := N_0; omega⟩
/-- Column `j` of point `t`'s column block, in the output channels. -/
def col (t : Fin cfg0.N) (j : Fin 768) : Fin 9984 :=
  ⟨t.val % 13 * 768 + j.val, by omega⟩

/-! Where each window's block sits in its array. -/

theorem emb0 (t : Fin cfg0.N) (r : Fin 1024) (k : Fin 8064) :
    ((cfg0.win 0).blk t).view.emb (ix2 r k : S1024x8064.Idx) = (ix2 (row t r) k : S8192x8064.Idx) := by
  obtain ⟨⟨e0, e1⟩, -⟩ := idx_facts t
  funext a; apply Fin.ext
  match a with
  | ⟨0, _⟩ => show win0_0.index t (0 : Fin 2) * 1024 + 1 * r.val = t.val / 13 * 1024 + r.val; omega
  | ⟨1, _⟩ => show win0_0.index t (1 : Fin 2) * 8064 + 1 * k.val = k.val; omega

theorem emb1 (t : Fin cfg0.N) (r : Fin 1024) :
    ((cfg0.win 1).blk t).view.emb (ix2 r (0 : Fin 1) : S1024x1.Idx) = (ix2 (row t r) (0 : Fin 1) : S8192x1.Idx) := by
  obtain ⟨-, ⟨e0, e1⟩, -⟩ := idx_facts t
  funext a; apply Fin.ext
  match a with
  | ⟨0, _⟩ => show win0_1.index t (0 : Fin 2) * 1024 + 1 * r.val = t.val / 13 * 1024 + r.val; omega
  | ⟨1, _⟩ => show win0_1.index t (1 : Fin 2) * 1 + 1 * 0 = 0; omega

theorem emb2 (t : Fin cfg0.N) (k : Fin 8064) (j : Fin 768) :
    ((cfg0.win 2).blk t).view.emb (ix2 k j : S8064x768.Idx) = (ix2 k (col t j) : S8064x9984.Idx) := by
  obtain ⟨-, -, ⟨e0, e1⟩, -⟩ := idx_facts t
  funext a; apply Fin.ext
  match a with
  | ⟨0, _⟩ => show win0_2.index t (0 : Fin 2) * 8064 + 1 * k.val = k.val; omega
  | ⟨1, _⟩ => show win0_2.index t (1 : Fin 2) * 768 + 1 * j.val = t.val % 13 * 768 + j.val; omega

theorem emb3 (t : Fin cfg0.N) (j : Fin 768) :
    ((cfg0.win 3).blk t).view.emb (ix2 (0 : Fin 1) j : S1x768.Idx) = (ix2 (0 : Fin 1) (col t j) : S1x9984.Idx) := by
  obtain ⟨-, -, -, ⟨e0, e1⟩, -⟩ := idx_facts t
  funext a; apply Fin.ext
  match a with
  | ⟨0, _⟩ => show win0_3.index t (0 : Fin 2) * 1 + 1 * 0 = 0; omega
  | ⟨1, _⟩ => show win0_3.index t (1 : Fin 2) * 768 + 1 * j.val = t.val % 13 * 768 + j.val; omega

theorem emb4 (t : Fin cfg0.N) (j : Fin 768) :
    ((cfg0.win 4).blk t).view.emb (ix2 (0 : Fin 1) j : S1x768.Idx) = (ix2 (0 : Fin 1) (col t j) : S1x9984.Idx) := by
  obtain ⟨-, -, -, -, ⟨e0, e1⟩, -⟩ := idx_facts t
  funext a; apply Fin.ext
  match a with
  | ⟨0, _⟩ => show win0_4.index t (0 : Fin 2) * 1 + 1 * 0 = 0; omega
  | ⟨1, _⟩ => show win0_4.index t (1 : Fin 2) * 768 + 1 * j.val = t.val % 13 * 768 + j.val; omega

theorem emb5 (t : Fin cfg0.N) (r : Fin 1024) (j : Fin 768) :
    ((cfg0.win 5).blk t).view.emb (ix2 r j : S1024x768.Idx) = (ix2 (row t r) (col t j) : S8192x9984.Idx) := by
  obtain ⟨-, -, -, -, -, e0, e1⟩ := idx_facts t
  funext a; apply Fin.ext
  match a with
  | ⟨0, _⟩ => show win0_5.index t (0 : Fin 2) * 1024 + 1 * r.val = t.val / 13 * 1024 + r.val; omega
  | ⟨1, _⟩ => show win0_5.index t (1 : Fin 2) * 768 + 1 * j.val = t.val % 13 * 768 + j.val; omega

/-! Each input block read at an index. -/

theorem blk0 (c : Dev nD) (t : Fin cfg0.N) (r : Fin 1024) (k : Fin 8064) :
    iblk m c 0 t (ix2 r k : S1024x8064.Idx) = V m c main_v0 (ix2 (row t r) k : S8192x8064.Idx) :=
  congrArg (V m c main_v0) (emb0 t r k)
theorem blk1 (c : Dev nD) (t : Fin cfg0.N) (r : Fin 1024) :
    iblk m c 1 t (ix2 r (0 : Fin 1) : S1024x1.Idx) = V m c main_v1 (ix2 (row t r) (0 : Fin 1) : S8192x1.Idx) :=
  congrArg (V m c main_v1) (emb1 t r)
theorem blk2 (c : Dev nD) (t : Fin cfg0.N) (k : Fin 8064) (j : Fin 768) :
    iblk m c 2 t (ix2 k j : S8064x768.Idx) = V m c main_arg2 (ix2 k (col t j) : S8064x9984.Idx) :=
  congrArg (V m c main_arg2) (emb2 t k j)
theorem blk3 (c : Dev nD) (t : Fin cfg0.N) (j : Fin 768) :
    iblk m c 3 t (ix2 (0 : Fin 1) j : S1x768.Idx) = V m c main_v2 (ix2 (0 : Fin 1) (col t j) : S1x9984.Idx) :=
  congrArg (V m c main_v2) (emb3 t j)
theorem blk4 (c : Dev nD) (t : Fin cfg0.N) (j : Fin 768) :
    iblk m c 4 t (ix2 (0 : Fin 1) j : S1x768.Idx) = V m c main_v3 (ix2 (0 : Fin 1) (col t j) : S1x9984.Idx) :=
  congrArg (V m c main_v3) (emb4 t j)

/-- The two-dimensional result of the arrays the region finds. -/
abbrev G (c : Dev nD) : Vec Ideal S8192x9984 .bf16 :=
  flat (V m c main_v0) (V m c main_v1) (V m c main_arg2) (V m c main_v2) (V m c main_v3)

/-- WHAT POINT `t` WRITES BACK is its block of `G`: the body's one store fills the staging buffer, and each element of
    what it stores reads one row of the row block against one column of the column block. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz, View.ld_unit_zero (S := S1024x8064) hz _ (iblk m c 0 t),
    View.ld_unit_zero (S := S8064x768) hz _ (iblk m c 2 t), View.ld_unit_zero (S := S1x768) hz _ (iblk m c 4 t),
    View.ld_unit_zero (S := S1024x1) hz _ (iblk m c 1 t), View.ld_unit_zero (S := S1x768) hz _ (iblk m c 3 t)]
  funext (j : S1024x768.Idx)
  obtain ⟨r, q, rfl⟩ : ∃ (r : Fin 1024) (q : Fin 768), j = ix2 r q := ⟨j 0, j 1, eq_ix2 j⟩
  show k0_pay1 (F := Ideal) (iblk m c 0 t) (iblk m c 2 t) (iblk m c 4 t) (iblk m c 1 t) (iblk m c 3 t) (ix2 r q)
    = G m c (((cfg0.win 5).blk t).view.emb (ix2 r q : S1024x768.Idx))
  rw [emb5]
  refine (Layer.block_apply _ _ _ _ _ r q).trans ?_
  rw [blk1 m c t r, blk3 m c t q, blk4 m c t q]
  simp only [blk0 m c t r, blk2 m c t _ q]
  rfl

/-- The blocks tile the array: index `i` is in the block of row block `i 0 / 1024`, column block `i 1 / 768`. -/
theorem cover (i : S8192x9984.Idx) :
    ∃ t : Fin cfg0.N, (cfg0.win 5).flush t = true ∧ i ∈ ((cfg0.win 5).blk t).view.set := by
  have h0 : (i 0 : Nat) < 8192 := (i 0).isLt
  have h1 : (i 1 : Nat) < 9984 := (i 1).isLt
  have hN : cfg0.N = 104 := N_0
  let t : Fin cfg0.N := ⟨(i 0 : Nat) / 1024 * 13 + (i 1 : Nat) / 768, by omega⟩
  refine ⟨t, flush0_5 _, ?_⟩
  have h := ((cfg0.win 5).blk t).view.emb_mem_set
    (ix2 ⟨(i 0 : Nat) % 1024, by omega⟩ ⟨(i 1 : Nat) % 768, by omega⟩ : S1024x768.Idx)
  rw [emb5] at h
  have e : (ix2 (row t ⟨(i 0 : Nat) % 1024, by omega⟩) (col t ⟨(i 1 : Nat) % 768, by omega⟩) : S8192x9984.Idx) = i := by
    rw [eq_ix2 i]
    congr 1
    · apply Fin.ext
      show ((i 0 : Nat) / 1024 * 13 + (i 1 : Nat) / 768) / 13 * 1024 + (i 0 : Nat) % 1024 = (i 0 : Nat)
      omega
    · apply Fin.ext
      show ((i 0 : Nat) / 1024 * 13 + (i 1 : Nat) / 768) % 13 * 768 + (i 1 : Nat) % 768 = (i 1 : Nat)
      omega
  rwa [e] at h

/-- So the two-dimensional result ends at `G`. -/
theorem final (c : Dev nD) : (dats m 0 c).arrAt 5 cfg0.N = G m c :=
  (dats m 0 c).arrAt_eq_of_cover 5 (G m c) (fun t _ => flushed_eq m c t) cover

/-! ## The host lines around the region -/

/-- The arrays the region finds: the arguments, reshaped. -/
theorem V_v0 (c : Dev nD) : V m c main_v0
    = shapeCast S8192x8064 (m ((c : Thread nD τ).loc main_arg0)) shapeCasts_S4x2048x8064_S8192x8064 := rfl
theorem V_v1 (c : Dev nD) : V m c main_v1
    = shapeCast S8192x1 (m ((c : Thread nD τ).loc main_arg1)) shapeCasts_S4x2048x1_S8192x1 := rfl
theorem V_v2 (c : Dev nD) : V m c main_v2
    = shapeCast S1x9984 (m ((c : Thread nD τ).loc main_arg3)) shapeCasts_S9984_S1x9984 := rfl
theorem V_v3 (c : Dev nD) : V m c main_v3
    = shapeCast S1x9984 (m ((c : Thread nD τ).loc main_arg4)) shapeCasts_S9984_S1x9984 := rfl

/-- The program's result: the two-dimensional result reshaped. -/
theorem W_v5 (c : Dev nD) : Pipeline.afterTail₀ cfgs (dats m) 0 (V0 m) [hostOps1] c main_v5
    = shapeCast S4x2048x9984 (G m c) shapeCasts_S8192x9984_S4x2048x9984 := by
  unfold Pipeline.afterTail₀
  simp only [hostOps1, List.flatten_cons, List.flatten_nil, List.append_nil, StableHlo.after_cons, StableHlo.after_nil]
  rw [StableHlo.reshape_result']
  have h := (Pipeline.withArrays_arr (cfgs 0).spec launch0.win.arr_inj c (V0 m c)
    (fun w => (dats m 0 c).arrAt w (cfgs 0).N) 5).trans (final m c)
  funext i
  exact congrFun (congrArg (fun X : Vec Ideal S8192x9984 .bf16 =>
    shapeCast S4x2048x9984 X shapeCasts_S8192x9984_S4x2048x9984) h) i

/-! ## The result, element by element -/

/-- The layer of device `c`'s arguments: what the program's result is shown to hold. -/
def out (c : Dev nD) : Vec Ideal S4x2048x9984 .bf16 := fun i =>
  Layer.elem (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- Token `(b, s)` is row `b * 2048 + s` of the flattened tokens, on the way in and on the way out. -/
theorem reshaped (x : Vec Ideal S4x2048x8064 .fp8e4m3) (xs : Vec Ideal S4x2048x1 .f32) (w : Vec Ideal S8064x9984 .fp8e4m3)
    (ws : Vec Ideal S9984 .f32) (bias : Vec Ideal S9984 .bf16) (b : Fin 4) (s : Fin 2048) (n : Fin 9984) :
    shapeCast S4x2048x9984 (flat (shapeCast S8192x8064 x shapeCasts_S4x2048x8064_S8192x8064)
        (shapeCast S8192x1 xs shapeCasts_S4x2048x1_S8192x1) w (shapeCast S1x9984 ws shapeCasts_S9984_S1x9984)
        (shapeCast S1x9984 bias shapeCasts_S9984_S1x9984)) shapeCasts_S8192x9984_S4x2048x9984 (ix3 b s n)
      = Layer.elem x xs w ws bias b s n := by
  pointwise [flat, Layer.elem]

/-- THE KERNEL'S RUN: its result is the layer of its arguments, and the arguments are unchanged. -/
theorem run : θ_run defs (onTc (τ := τ) (main (F := Ideal))) ⟨m, fun _ => 0, ρ⟩ fun r => ∀ c : Dev nD,
      r.2.mem ((c : Thread nD τ).loc main_v5) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)
  refine ((h c).2 main_v5 (Pipeline.mem_restRefs_of main_v5 (by decide) (by decide))).trans ((W_v5 m c).trans ?_)
  unfold G
  rw [V_v0, V_v1, V_v2, V_v3, V_main_arg2]
  funext (i : S4x2048x9984.Idx)
  obtain ⟨b, s, n, rfl⟩ : ∃ (b : Fin 4) (s : Fin 2048) (n : Fin 9984), i = ix3 b s n := ⟨i 0, i 1, i 2, eq_ix3 i⟩
  exact reshaped _ _ _ _ _ b s n

end Cert.KernelIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Layer
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The two programs' results are equal over the extended reals: the kernel's result is the layer of its arguments
    (`KernelIdeal.RefValue.run`), the reference's is its body's payload (`ReferenceIdeal.Value.run`), which is the same
    element at every index (`Layer.reference_apply`). -/
theorem algebraic : @Cert.algebraic_KernelIdeal_ReferenceIdeal Cert.KernelIdeal.Gen.facts Cert.ReferenceIdeal.Gen.facts := by
  intro m g m' g' _ hagree
  refine ⟨fun c => Cert.KernelIdeal.RefValue.out m c, Cert.KernelIdeal.RefValue.run m g, ?_⟩
  refine (θ_run Cert.ReferenceIdeal.defs _ _).mono (fun _ h c => ⟨(h c).1.trans ?_, (h c).2⟩)
    (Cert.ReferenceIdeal.Value.run (F := Ideal) m' g')
  rw [(hagree c).1, (hagree c).2.1, (hagree c).2.2.1, (hagree c).2.2.2.1, (hagree c).2.2.2.2]
  funext (i : Cert.ReferenceIdeal.S4x2048x9984.Idx)
  obtain ⟨b, s, n, rfl⟩ : ∃ (b : Fin 4) (s : Fin 2048) (n : Fin 9984), i = ix3 b s n := ⟨i 0, i 1, i 2, eq_ix3 i⟩
  exact Cert.Layer.reference_apply _ _ _ _ _ b s n

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
